-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_table : Cert.Pre_in_table.Facts] (m : (ℓ : Loc Cert.Reference.nD Cert.Reference.τ Cert.Reference.sig) → Buf (Elt Bits) ℓ) : Prop :=
  ∀ c : Dev Cert.Reference.nD,
    (Cert.Pre_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_table : Cert.Pre_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ quiescent_Reference (hReference := hReference) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
    ∧ bitexact_Kernel_Reference (hKernel := hKernel) (hReference := hReference) (hPre_in_table := hPre_in_table)
-- ==== Pre_in_table.lean ====
abbrev S1000000x128 : Shape := ⟨2, ![1000000, 128]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S1000000x128 .f32) (main_arg1 : IVec S64 32) : IVec S_ 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 32 := constantI S_ 32 1000000#32
  let main_v2 : IVec S64 32 := broadcastInDim S64 ![] bcast_S_S64 main_c_0
  let main_v3 : IVec S64 1 := cmpi .slt main_arg1 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  main_v5
-- ==== Kernel.lean ====
abbrev S1000000x128 : Shape := ⟨2, ![1000000, 128]⟩
abbrev S64 : Shape := ⟨1, ![64]⟩
abbrev S64x128 : Shape := ⟨2, ![64, 128]⟩
abbrev S8 : Shape := ⟨1, ![8]⟩
abbrev S8x128 : Shape := ⟨2, ![8, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S1000000x128, .f32⟩
  | .hbm, ⟨1, _⟩ => ⟨S64, .i32⟩
  | .hbm, ⟨2, _⟩ => ⟨S64x128, .f32⟩
  | .local .scVector .vmem, ⟨0, _⟩ => ⟨S8, .i32⟩
  | .local .scVector .vmem, ⟨1, _⟩ => ⟨S8x128, .f32⟩
  | _, _ => ⟨S1000000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 32 := Scalar.muli v1 c8_i32_0
  ![v5.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v5 : BitVec 32 := Scalar.muli v1 c8_i32_0
  let c0_i32_5_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1000000x128 : Shape := ⟨2, ![1000000, 128]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x128 : Shape := ⟨2, ![64, 128]⟩

abbrev nBuf : Space → Nat
  | .hbm => 25
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S64x1, .i32⟩
  | .hbm, ⟨10, _⟩ => ⟨S1, .i32⟩
  | .hbm, ⟨11, _⟩ => ⟨S_, .i32⟩
  | .hbm, ⟨12, _⟩ => ⟨S64x1, .i32⟩
  | .hbm, ⟨13, _⟩ => ⟨S64x1, .i1⟩
  | .hbm, ⟨14, _⟩ => ⟨S1x1, .i32⟩
  | .hbm, ⟨15, _⟩ => ⟨S64x1, .i32⟩
  | .hbm, ⟨16, _⟩ => ⟨S64x1, .i1⟩
  | .hbm, ⟨17, _⟩ => ⟨S64x1, .i1⟩
  | .hbm, ⟨18, _⟩ => ⟨S_, .i1⟩
  | .hbm, ⟨19, _⟩ => ⟨S64, .i1⟩
  | .hbm, ⟨20, _⟩ => ⟨S64x128, .f32⟩
  | .hbm, ⟨21, _⟩ => ⟨S64x128, .i1⟩
  | .hbm, ⟨22, _⟩ => ⟨S_, .f32⟩
  | .hbm, ⟨23, _⟩ => ⟨S64x128, .f32⟩
  | .hbm, ⟨24, _⟩ => ⟨S64x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Task.lean ====
/-
  One task of the row gather, at a symbolic SparseCore and vector subcore.

  The call runs the body on two SparseCores of sixteen vector subcores. Subcore `s` of core `c` has the number
  `w = 2 s + c`; the eight subcores with `w < 8` each fetch the eight row numbers `idx[8 w .. 8 w + 8)` into a scratch,
  gather those rows of the table into a second scratch by one indirect transfer, and copy that scratch to rows
  `8 w .. 8 w + 8` of the result. The other twenty-four do nothing. Every task reads the whole table and the whole list
  of row numbers at a share, and owns outright the part of the result whose row `r` has `r / 8 = w`: eight rows of an
  active task, none of an idle one. So one statement covers both, and it carries the value from the start: a task's part
  of the result ends at the gathered rows (`taken`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.RowGather

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's parts: labels, configuration, definitions -/

/-- The labels the launch runs under. -/
abbrev Lb : Labels := Pipeline.Sig Λ₀ (Fin 0) fun p => (pcfgs (F := F) p).Adm
/-- The SparseCore configuration the program prints. -/
abbrev K : SparseCore.Cfg τ sig (Lb (F := F)) 1 := sc (F := F)
/-- The kernel bodies, lifted to the launch's labels. -/
abbrev Df [FloatOps F] : Defs nD τ sig (Elt F) (Lb (F := F)) := Pipeline.defs pcfgs defs₀
/-- No loop of the program is counted by a variant. -/
abbrev 𝒱₀ : Variants := Variants.none
abbrev 𝒱 : Variants := 𝒱₀.lift
abbrev v₀ : 𝒱.V := Sum.inl none

/-- The call runs on two cores and sixteen subcores of each. -/
theorem nCore_zero : (K (F := F)).nCore 0 = 2 := rfl
theorem nSub_zero : (K (F := F)).nSub 0 = 16 := rfl

/-- The side conditions of the launch: its four semaphores are distinct and unscoped, no buffer is shared. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The ghost state: the handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the value -/

variable (m : (ℓ : Loc nD τ sig) → Buf (Elt F) ℓ)

/-- The table, the row numbers and the result, on device `d`. -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- What a subcore addresses, whole: the table, the row numbers, the result, and its two scratches (row numbers fetched, rows
    gathered). -/
abbrev xV : Memref sig .scVector .hbm S1000000x128 .f32 := Memref.whole main_arg0_scv
abbrev iV : Memref sig .scVector .hbm S64 .i32 := Memref.whole main_arg1_scv
abbrev oV : Memref sig .scVector .hbm S64x128 .f32 := Memref.whole main_v0_scv
abbrev sV : Memref sig .scVector .vmem S8 .i32 := Memref.whole cc0_scratch0
abbrev rV : Memref sig .scVector .vmem S8x128 .f32 := Memref.whole cc0_scratch1

/-- THE VALUE: row `p` of the result is the table's row `idx[p]`, the number taken modulo the table's million rows (so the
    function is total; in range, where the precondition puts it, the number is its own remainder). -/
def taken (x : S1000000x128.Idx → F .f32) (idx : S64.Idx → BitVec 32) : S64x128.Idx → F .f32 :=
  fun j => x (ix2 (Fin.ofNat 1000000 (idx (ix1 (j 0))).toNat) (j 1))

/-- `taken` of the launch memory's table and row numbers, as contents of the result's buffer. -/
def G (d : Dev nD) : Buf (Elt F) (oLoc d) := taken (F := F) (m (xLoc d)) (m (iLoc d))

/-- What is asked of the launch memory: every row number is a row of the table. -/
def InTable : Prop := ∀ (d : Dev nD) (j : S64.Idx), (m (iLoc d) j).toNat < 1000000

/-- The part of the result the task numbered `w` owns: the rows `8 w .. 8 w + 8`, if the result has them. -/
def part (w : ℕ) : Finset S64x128.Idx := Finset.univ.filter fun j => (j 0).val / 8 = w

theorem mem_part {w : ℕ} {j : S64x128.Idx} : j ∈ part w ↔ (j 0).val / 8 = w := by simp [part]

/-- The table and the row numbers, unchanged, at a share; the part of the result numbered `w`, holding `f` there. -/
abbrev xAt (d : Dev nD) (q : PosShare TreeShare) : sProp 𝕄 := xLoc d ↦{q} m (xLoc d)
abbrev iAt (d : Dev nD) (q : PosShare TreeShare) : sProp 𝕄 := iLoc d ↦{q} m (iLoc d)
abbrev oAt (d : Dev nD) (w : ℕ) (f : Buf (Elt F) (oLoc d)) : sProp 𝕄 := oLoc d ↦[part w]{fullShare} f

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The task's number. -/
abbrev wid (L : grid0.Coords) : ℕ := 2 * (L 1).val + (L 0).val

/-- The body's guard holds of the tasks numbered below eight. -/
theorem cond_iff : ∀ L : grid0.Coords, k0_cond1 L = 1#1 ↔ wid L < 8 := by decide +kernel

/-- The slices an active task addresses: its eight row numbers, the whole table, its eight rows of the result. -/
abbrev iK (h : k0_cond1 L = 1#1) : Memref sig .scVector .hbm S8 .i32 :=
  iV.slice (Rect.unit (s := S64) (k0_off1 L) S8.size (k0_off1_inb L h)) (fun _ => rfl)
abbrev xK : Memref sig .scVector .hbm S1000000x128 .f32 :=
  xV.slice (Rect.unit (s := S1000000x128) ![0, 0] S1000000x128.size inb_S1000000x128_S1000000x128_0_0) (fun _ => rfl)
abbrev oK (h : k0_cond1 L = 1#1) : Memref sig .scVector .hbm S8x128 .f32 :=
  oV.slice (Rect.unit (s := S64x128) (k0_off2 L) S8x128.size (k0_off2_inb L h)) (fun _ => rfl)

omit [FloatOps F] in
/-- An active task's slice of the result is its part. -/
theorem set_oK (h : k0_cond1 L = 1#1) : (oK L h).view.set = part (wid L) := by
  show ((View.whole (main_v0_scv : Ref sig .scVector)).slice (Rect.unit (s := S64x128) (k0_off2 L) S8x128.size (k0_off2_inb L h))).set = _
  rw [View.set_slice_whole]
  ext j
  rw [Rect.mem_set_unit, mem_part, k0_off2_eq]
  have h0 : S8x128.size 0 = 8 := rfl
  have h1 : S8x128.size 1 = 128 := rfl
  have hj : (j 1).val < 128 := (j 1).isLt
  refine Fin.forall_fin_two.trans ?_
  simp only [Matrix.cons_val_zero, Matrix.cons_val_one, h0, h1, wid]
  omega

omit [FloatOps F] in
/-- An idle task's part is empty. -/
theorem part_idle (h : ¬ k0_cond1 L = 1#1) : part (wid L) = ∅ := by
  rw [cond_iff] at h
  refine Finset.eq_empty_of_forall_notMem fun j hj => ?_
  have := mem_part.1 hj
  have hj : (j 0).val < 64 := (j 0).isLt
  omega

abbrev cA : GSem nD τ sig := (V d (cV L) (jV L), .dma cc0_scratch2.sem)
abbrev cB : GSem nD τ sig := (V d (cV L) (jV L), .dma cc0_scoped0.sem)
abbrev cC : GSem nD τ sig := (V d (cV L) (jV L), .dma cc0_scoped1.sem)

omit [FloatOps F] in
/-- The subcore's semaphores at zero: the gather's, the two copies', and the rest. -/
theorem sems_own :
    (ownSems0 (V d (cV L) (jV L)) : sProp 𝕄)
      = iprop(semVal (cA d L) 0 ∗ semVal (cB d L) 0 ∗ semVal (cC d L) 0
          ∗ bigSep ((((ownCells (V d (cV L) (jV L))).erase (cA d L)).erase (cB d L)).erase (cC d L)) fun g => semVal g 0) := by
  have own : ∀ n : DmaSem sig, (SemLoc.dma n : SemLoc sig).isScoped .scVector = true →
      ((V d (cV L) (jV L), .dma n) : GSem nD τ sig) ∈ ownCells (V d (cV L) (jV L)) := fun n h => mem_ownCells.mpr ⟨rfl, h⟩
  have hAB : cB d L ≠ cA d L := by simp [cA, cB]; decide
  have hAC : cC d L ≠ cA d L := by simp [cA, cC]; decide
  have hBC : cC d L ≠ cB d L := by simp [cB, cC]; decide
  unfold SparseCore.Cfg.ownSems0
  rw [SparseCore.bigSep_erase' (own cc0_scratch2.sem (by decide)), SparseCore.bigSep_erase' (Finset.mem_erase.mpr ⟨hAB, own cc0_scoped0.sem (by decide)⟩),
    SparseCore.bigSep_erase' (Finset.mem_erase.mpr ⟨hBC, Finset.mem_erase.mpr ⟨hAC, own cc0_scoped1.sem (by decide)⟩⟩)]

omit [FloatOps F] in
/-- The subcore's buffers: the two scratches, at some contents, and the rest. -/
theorem bufs_own :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr
    ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩)]

omit [FloatOps F] in
/-- The row numbers a task fetched are rows of the table. -/
theorem fetched_inb (hpre : InTable m) (h : k0_cond1 L = 1#1) (f : Buf (Elt F) ((V d (cV L) (jV L)).loc cc0_scratch0)) :
    ∀ y, (sV.view.read (Elt F) (sV.view.write (Elt F) f (ReadAs.same.apply ((iK L h).view.read (Elt F) (m (iLoc d)))) Finset.univ) y).toNat
      < S1000000x128.size gathers_S1000000x128_S8x128.axis := by
  intro y
  rw [View.write_whole_univ]
  exact hpre d ((iK L h).view.emb y)

omit [FloatOps F] in
/-- Entry `y` of the fetched list is the row number at the place of the list where row `y` of the task's slice lies. -/
theorem fetched_at (h : k0_cond1 L = 1#1) (y : S8x128.Idx) (n : Fin S8.numel) (hn : n.val = (y 0).val) :
    (iK L h).view.emb (S8.rowMajor.symm n) = ix1 ((oK L h).view.emb y 0) := by
  have e : (S8.rowMajor.symm n 0).val = n.val := by
    have := Shape.rowMajor_val_one (S8.rowMajor.symm n)
    rw [Equiv.apply_symm_apply] at this; exact this.symm
  funext a
  match a with
  | ⟨0, _⟩ =>
    refine Fin.ext ?_
    show k0_off1 L 0 + 1 * (S8.rowMajor.symm n 0).val = k0_off2 L 0 + 1 * (y 0).val
    rw [e, hn, k0_off1_eq, k0_off2_eq]; rfl

omit [FloatOps F] in
/-- THE GATHER'S VALUE: over the fetched list, the payload at `y` is the table's row of the row number at the place where
    row `y` of the task's slice lies, at `y`'s column: the result wanted there. -/
theorem gathered_at (hpre : InTable m) (h : k0_cond1 L = 1#1) (f : Buf (Elt F) ((V d (cV L) (jV L)).loc cc0_scratch0))
    (hn : S8.numel = S8x128.size gathers_S1000000x128_S8x128.axis')
    (hin : ∀ y, (sV.view.read (Elt F) (sV.view.write (Elt F) f (ReadAs.same.apply ((iK L h).view.read (Elt F) (m (iLoc d)))) Finset.univ) y).toNat
      < S1000000x128.size gathers_S1000000x128_S8x128.axis) (y : S8x128.Idx) :
    SparseCore.gatherPayload gathers_S1000000x128_S8x128 ((xK).view.read (Elt F) (m (xLoc d)))
        (SparseCore.rows (sV.view.read (Elt F) (sV.view.write (Elt F) f (ReadAs.same.apply ((iK L h).view.read (Elt F) (m (iLoc d)))) Finset.univ)) hn hin) y
      = G m d ((oK L h).view.emb y) := by
  revert hin
  rw [View.write_whole_univ]
  intro hin
  show m (xLoc d) ((xK).view.emb _) = m (xLoc d) (ix2 (Fin.ofNat 1000000 (m (iLoc d) (ix1 ((oK L h).view.emb y 0))).toNat) ((oK L h).view.emb y 1))
  refine congrArg (m (xLoc d)) (funext fun a => Fin.ext ?_)
  match a with
  | ⟨0, _⟩ =>
    show 0 + 1 * (m (iLoc d) ((iK L h).view.emb (S8.rowMajor.symm _))).toNat = (m (iLoc d) (ix1 ((oK L h).view.emb y 0))).toNat % 1000000
    have e := fetched_at L h y (Fin.cast hn.symm (y gathers_S1000000x128_S8x128.axis')) rfl
    exact (Nat.zero_add _).trans ((Nat.one_mul _).trans
      ((congrArg (fun z => (m (iLoc d) z).toNat) e).trans (Nat.mod_eq_of_lt (hpre d _)).symm))
  | ⟨1, _⟩ =>
    show 0 + 1 * (y 1).val = k0_off2 L 1 + 1 * (y 1).val
    rw [k0_off2_eq]; rfl

omit [FloatOps F] in
/-- Contents that read, through the task's slice, as the wanted result there are the wanted result on the task's part. -/
theorem part_eq (h : k0_cond1 L = 1#1) (g : Buf (Elt F) (oLoc d))
    (hg : ∀ y, (oK L h).view.read (Elt F) g y = G m d ((oK L h).view.emb y)) : ∀ i ∈ (oK L h).view.set, g i = G m d i := by
  intro i hi
  obtain ⟨y, -, rfl⟩ := Finset.mem_map.mp hi
  exact hg y

set_option maxHeartbeats 4000000 in
/-- THE TASK on subcore `(L 0, L 1)` of device `d`, over any shares of the table and of the row numbers: both come back
    as they were, the task's part of the result holds the gathered rows, the scratches and the semaphores are its own
    again, and every wait it made was answered. -/
theorem task (hF : (K (F := F)).Facts) (hpre : InTable m) (qx qi : PosShare TreeShare) (O : CellTallies nD τ sig (HIx 1)) (W : Waits sig (HIx 1))
    (hO : ∀ g, O g none = 0) :
    iprop(levAts (K (F := F)).L (K (F := F)).lev ∗ emp
        ∗ (xAt m d qx ∗ iAt m d qi ∗ oAt d (wid L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop((xAt m d qx ∗ iAt m d qi ∗ oAt d (wid L) (G m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), sems_own, bufs_own]
  by_cases h : k0_cond1 L = 1#1
  · simp only [dif_pos h]
    iintro ⟨#Hlv, -, ⟨Hx, Hi, Ho⟩, ⟨⟨%fs, Hs⟩, ⟨%fr, Hr⟩, Hbufs⟩, ⟨HsemA, HsemB, HsemC, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Hx' := (Entails.of_eq (show (xLoc d ↦{qx} m (xLoc d) : sProp 𝕄) = xV.view.loc (V d (cV L) (jV L)) ↦{qx} m (xLoc d) from rfl)) $$ Hx
    ihave Hi' := (Entails.of_eq (show (iLoc d ↦{qi} m (iLoc d) : sProp 𝕄) = iV.view.loc (V d (cV L) (jV L)) ↦{qi} m (iLoc d) from rfl)) $$ Hi
    ihave Ho' := (Entails.of_eq (show (oLoc d ↦[part (wid L)]{fullShare} m (oLoc d) : sProp 𝕄)
      = (oK L h).view.loc (V d (cV L) (jV L)) ↦[(oK L h).view.set]{fullShare} m (oLoc d) by rw [set_oK])) $$ Ho
    ihave Hs' := (Entails.of_eq (show ((V d (cV L) (jV L)).loc cc0_scratch0 ↦{fullShare} fs : sProp 𝕄) = sV.view.loc (V d (cV L) (jV L)) ↦{fullShare} fs from rfl)) $$ Hs
    ihave Hr' := (Entails.of_eq (show ((V d (cV L) (jV L)).loc cc0_scratch1 ↦{fullShare} fr : sProp 𝕄) = rV.view.loc (V d (cV L) (jV L)) ↦{fullShare} fr from rfl)) $$ Hr
    have hin := fetched_inb m d L hpre h
    sl_exec
    have hval : ((oK L h).view.loc (V d (cV L) (jV L)) ↦[(oK L h).view.set]{fullShare}
          (oK L h).view.writes (Elt F) (m (oLoc d)) [⟨Rect.whole S8x128, task.sl.dma0_1 m d L h fs fr hin⟩] : sProp 𝕄)
        = oAt d (wid L) (G m d) := by
      rw [pointsTo_congr (part_eq m d L h _ fun y =>
        (congrFun (View.read_writes_whole (oK L h).view (m (oLoc d)) (task.sl.dma0_1 m d L h fs fr hin)) y).trans
          ((congrFun (View.read_writes_whole rV.view fr (task.sl.gather1 m d L h fs hin)) y).trans (gathered_at m d L hpre h fs rfl (hin fs) y))),
        set_oK]
    sl_step
    isplitl [Hx' Hi' Ho']
    · isplitl [Hx']; · iexact Hx'
      isplitl [Hi']; · iexact Hi'
      iapply (Entails.of_eq hval); iexact Ho'
    isplitl [Hs' Hr' Hbufs]
    · isplitl [Hs']; · iexists _; iexact Hs'
      isplitl [Hr']; · iexists _; iexact Hr'
      iexact Hbufs
    isplitl [HsemA HsemB HsemC Hsems]
    · isplitl [HsemA]; · iexact HsemA
      isplitl [HsemB]; · iexact HsemB
      isplitl [HsemC]; · iexact HsemC
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · simp only [dif_neg h]
    iintro ⟨-, -, ⟨Hx, Hi, Ho⟩, Hbufs, Hsems, HO⟩
    ihave Ho' := (Entails.of_eq (show (oAt d (wid L) (m (oLoc d)) : sProp 𝕄) = oAt d (wid L) (G m d) from
      pointsTo_congr (by rw [part_idle L h]; exact fun i hi => absurd hi (Finset.notMem_empty i)))) $$ Ho
    sl_step
    isplitl [Hx Hi Ho']
    · isplitl [Hx]; · iexact Hx
      isplitl [Hi]; · iexact Hi
      iexact Ho'
    isplitl [Hbufs]; · iexact Hbufs
    isplitl [Hsems]; · iexact Hsems
    iexists W; isplitr
    · ipureintro; exact fun p hp => .inl hp
    · iexact HO

end Tile

end Cert.Proof.RowGather

end
-- ==== Proof.Launch.lean ====
/-
  The row gather's whole run: the call's operands dealt to the tasks and joined again, and the theorem of the run.

  The table and the row numbers are dealt at shares, to the two cores and then to a core's sixteen subcores; the result
  is cut by rows, into the blocks of eight with an even and an odd number for the two cores and then block by block.
  Nothing is existential: each core gives back its rows of the result holding the gathered rows, so at the end the whole
  result is the value `G`.
-/
module

public import proofs.«01_k».proof.Proof.Task

@[expose] public section

noncomputable section

namespace Cert.Proof.RowGather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Shares and parts -/

/-- A core's share of what every task reads, and a task's. -/
def coreShare (c : Fin 2) : PosShare TreeShare := Transfers.dealOf fullShare Finset.univ c
def taskShare (c : Fin 2) (i : Fin 16) : PosShare TreeShare := Transfers.dealOf (coreShare c) Finset.univ i

/-- A core's rows of the result: those of the blocks of eight whose number has the core's parity. -/
def corePart (c : Fin 2) : Finset S64x128.Idx := Finset.univ.filter fun j => (j 0).val / 8 % 2 = c.val

theorem mem_corePart {c : Fin 2} {j : S64x128.Idx} : j ∈ corePart c ↔ (j 0).val / 8 % 2 = c.val := by simp [corePart]

/-- The two cores' rows are the result's. -/
theorem cores_cover : (Finset.univ : Finset (Fin 2)).biUnion corePart = Finset.univ := by
  ext j
  simp only [Finset.mem_biUnion, Finset.mem_univ, true_and, iff_true, mem_corePart]
  exact ⟨⟨(j 0).val / 8 % 2, Nat.mod_lt _ (by decide)⟩, rfl⟩

theorem cores_disjoint : ∀ a ∈ (Finset.univ : Finset (Fin 2)), ∀ b ∈ (Finset.univ : Finset (Fin 2)), a ≠ b → Disjoint (corePart a) (corePart b) :=
  fun a _ b _ h => Finset.disjoint_left.2 fun _ ha hb => h (Fin.ext ((mem_corePart.1 ha).symm.trans (mem_corePart.1 hb)))

/-- A core's tasks' parts are the core's rows. -/
theorem parts_cover (c : Fin 2) : (Finset.univ : Finset (Fin 16)).biUnion (fun i => part (2 * i.val + c.val)) = corePart c := by
  ext j
  simp only [Finset.mem_biUnion, Finset.mem_univ, true_and, mem_corePart, mem_part]
  have hj : (j 0).val < 64 := (j 0).isLt
  have hc := c.isLt
  exact ⟨fun ⟨i, hi⟩ => by omega, fun h => ⟨⟨(j 0).val / 8 / 2, by omega⟩, by show _ = 2 * ((j 0).val / 8 / 2) + c.val; omega⟩⟩

theorem parts_disjoint (c : Fin 2) : ∀ a ∈ (Finset.univ : Finset (Fin 16)), ∀ b ∈ (Finset.univ : Finset (Fin 16)), a ≠ b →
    Disjoint (part (2 * a.val + c.val)) (part (2 * b.val + c.val)) :=
  fun a _ b _ h => Finset.disjoint_left.2 fun _ ha hb => h (Fin.ext (by have := mem_part.1 ha; have := mem_part.1 hb; omega))

/-- A core's rows of the result, holding `f`. -/
abbrev oCore (d : Dev nD) (c : Fin 2) (f : Buf (Elt F) (oLoc d)) : sProp 𝕄 := oLoc d ↦[corePart c]{fullShare} f

theorem x_cores (d : Dev nD) : (xAt m d fullShare : sProp 𝕄) = bigSep Finset.univ fun c => xAt m d (coreShare c) :=
  Transfers.pointsTo_deal Finset.univ Finset.univ_nonempty fullShare
theorem i_cores (d : Dev nD) : (iAt m d fullShare : sProp 𝕄) = bigSep Finset.univ fun c => iAt m d (coreShare c) :=
  Transfers.pointsTo_deal Finset.univ Finset.univ_nonempty fullShare
theorem x_tasks (d : Dev nD) (c : Fin 2) : (xAt m d (coreShare c) : sProp 𝕄) = bigSep Finset.univ fun i => xAt m d (taskShare c i) :=
  Transfers.pointsTo_deal Finset.univ Finset.univ_nonempty (coreShare c)
theorem i_tasks (d : Dev nD) (c : Fin 2) : (iAt m d (coreShare c) : sProp 𝕄) = bigSep Finset.univ fun i => iAt m d (taskShare c i) :=
  Transfers.pointsTo_deal Finset.univ Finset.univ_nonempty (coreShare c)
theorem o_cores (d : Dev nD) (f : Buf (Elt F) (oLoc d)) : (oLoc d ↦{fullShare} f : sProp 𝕄) = bigSep Finset.univ fun c => oCore d c f := by
  rw [← pointsTo_biUnion Finset.univ (ℓ := oLoc d) corePart cores_disjoint, cores_cover]
theorem o_tasks (d : Dev nD) (c : Fin 2) (f : Buf (Elt F) (oLoc d)) :
    (oCore d c f : sProp 𝕄) = bigSep Finset.univ fun i : Fin 16 => oAt d (2 * i.val + c.val) f := by
  rw [← pointsTo_biUnion Finset.univ (ℓ := oLoc d) (fun i : Fin 16 => part (2 * i.val + c.val)) (parts_disjoint c), parts_cover]

/-! ## What the handshakes carry -/

/-- A core's operands, the result's rows holding `f`; and a task's. -/
abbrev coreOps (d : Dev nD) (c : Fin 2) (f : Buf (Elt F) (oLoc d)) : sProp 𝕄 :=
  iprop(xAt m d (coreShare c) ∗ iAt m d (coreShare c) ∗ oCore d c f)
abbrev taskOps (d : Dev nD) (c : Fin 2) (i : Fin 16) (f : Buf (Elt F) (oLoc d)) : sProp 𝕄 :=
  iprop(xAt m d (taskShare c i) ∗ iAt m d (taskShare c i) ∗ oAt d (2 * i.val + c.val) f)

/-- The call hands each core its operands, each core its tasks theirs; they come back with the result's rows gathered. -/
def P : (K (F := F)).Pay (nD := nD) (Val := Elt F) (Name := ℕ) (U := UU) where
  st := fun q d c => match q with | 0 => coreOps m d (Fin.cast nCore_zero c) (m (oLoc d))
  dn := fun q d c => match q with | 0 => coreOps m d (Fin.cast nCore_zero c) (G m d)
  go := fun q d c i => match q with | 0 => taskOps m d (Fin.cast nCore_zero c) (Fin.cast nSub_zero i) (m (oLoc d))
  td := fun q d c i => match q with | 0 => taskOps m d (Fin.cast nCore_zero c) (Fin.cast nSub_zero i) (G m d)
  x := fun _ _ => iprop(emp)

instance P_storable : (P (F := F) m).IsStorable where
  st q d c := match q with
    | 0 => (inferInstance : BI.Storable (upEmb : UEmb _ 𝕄) (coreOps m d (Fin.cast nCore_zero c) (m (oLoc d))))
  dn q d c := match q with
    | 0 => (inferInstance : BI.Storable (upEmb : UEmb _ 𝕄) (coreOps m d (Fin.cast nCore_zero c) (G m d)))
  go q d c i := match q with
    | 0 => (inferInstance : BI.Storable (upEmb : UEmb _ 𝕄) (taskOps m d (Fin.cast nCore_zero c) (Fin.cast nSub_zero i) (m (oLoc d))))
  td q d c i := match q with
    | 0 => (inferInstance : BI.Storable (upEmb : UEmb _ 𝕄) (taskOps m d (Fin.cast nCore_zero c) (Fin.cast nSub_zero i) (G m d)))

/-- A core's operands are its tasks'. -/
theorem core_tasks (d : Dev nD) (c : Fin 2) (f : Buf (Elt F) (oLoc d)) :
    (coreOps m d c f : sProp 𝕄) = bigSep Finset.univ fun i => taskOps m d c i f := by
  rw [bigSep_sep', bigSep_sep', ← x_tasks, ← i_tasks, ← o_tasks]

/-- The whole table, row numbers and result are the cores' operands. -/
theorem whole_cores (d : Dev nD) (f : Buf (Elt F) (oLoc d)) :
    (iprop(xAt m d fullShare ∗ iAt m d fullShare ∗ oLoc d ↦{fullShare} f) : sProp 𝕄) = bigSep Finset.univ fun c => coreOps m d c f := by
  rw [bigSep_sep', bigSep_sep', ← x_cores, ← i_cores, ← o_cores]

/-- A core splits its operands among its tasks, and joins what they bring back. -/
theorem vecSplit : (K (F := F)).VecSplit' (P m) 0 := by
  intro d c
  show coreOps m d (Fin.cast nCore_zero c) (m (oLoc d)) ⊢ |={Set.univ}=> iprop(
      (bigSep Finset.univ fun i : Fin 16 => taskOps m d (Fin.cast nCore_zero c) i (m (oLoc d)))
      ∗ ((bigSep Finset.univ fun i : Fin 16 => taskOps m d (Fin.cast nCore_zero c) i (G m d))
          -∗ coreOps m d (Fin.cast nCore_zero c) (G m d)))
  rw [core_tasks, core_tasks]
  iintro H; imodintro
  isplitl [H]; · iexact H
  iintro H; iexact H

variable [FloatOps F]

/-! ## The tasks' obligation -/

/-- The grid's coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the body at its coordinates. -/
theorem defs₀_vector (c : Fin τ.nSC) (s : Fin τ.nSub) :
    defs₀ (F := F) (.scVector c s) 0 ()
      = SparseCore.onTile hcore0 hsub0 (fun c s => cc0_gather_kernel (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) cc0_scratch2 cc0_scoped0 cc0_scoped1) ⟨⟩ c s := rfl

omit [FloatOps F] in
/-- A task's own waits are among those the launch allows it. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation: `task` at its coordinates. -/
theorem tileObl (hpre : InTable m) : (K (F := F)).TileObl (Df (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (Df (F := F)) (Pipeline.defs_kernel pcfgs defs₀) 𝒱₀ _ Set.univ none _ _)
  rw [defs₀_vector]; simp only [SparseCore.onTile, hci, and_self, ↓reduceDIte]
  exact (task m d (coordsV ⟨_, hci.1⟩ ⟨_, hci.2⟩) launch_facts hpre (taskShare (Fin.cast nCore_zero c) (Fin.cast nSub_zero i))
    (taskShare (Fin.cast nCore_zero c) (Fin.cast nSub_zero i)) O W hO).trans (wp_mono frame _ _ fun _ => waits_weaken)

/-! ## @main and the run -/

/-- The ghost state at launch: the handshakes' rounds; no transfer is in flight. -/
def u₀ : UU := (initOf (K (F := F)).hsCells (K (F := F)).hsToks, 1)

omit [FloatOps F] in
/-- The launch's ghost state funds the handshakes; the certificate keeps nothing more of it. -/
theorem fund : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : (bigSep Finset.univ fun thr : Thread nD τ => bigSep Finset.univ fun q : Fin 1 => (P (F := F) m).x q thr)
      = (bigSep Finset.univ fun _ : Thread nD τ => iprop(emp) : sProp 𝕄) :=
    bigSep_congr fun _ _ => bigSep_univ_of_subsingleton (0 : Fin 1)
  have none_of : ∀ {I : Type} (s : Finset I), (bigSep s fun _ => iprop(emp)) = (iprop(emp) : sProp 𝕄) := fun s => bigSep_emp_const s
  rw [he, none_of, none_of]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

omit [FloatOps F] in
/-- The TensorCore's arrays are the table, the row numbers and the result. -/
theorem arrays_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main ends with: the table and the row numbers unchanged, the result gathered. -/
abbrev FIN (d : Dev nD) : sProp 𝕄 := iprop(xAt m d fullShare ∗ iAt m d fullShare ∗ oLoc d ↦{fullShare} G m d)

/-- @main on device `d`: the one call, from the three arrays to `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (Df (F := F))) 𝒱 (SparseCore.T d) none) Set.univ (main d)
          fun _ => iprop((K (F := F)).tcSt EH d 1 ∗ FIN m d ∗ (K (F := F)).tcEnd d) := by
  have hst : (bigSep Finset.univ fun c : Fin ((K (F := F)).nCore 0) => (P m).st 0 d c)
      = (iprop(xAt m d fullShare ∗ iAt m d fullShare ∗ oLoc d ↦{fullShare} m (oLoc d)) : sProp 𝕄) := (whole_cores m d _).symm
  have hdn : (bigSep Finset.univ fun c : Fin ((K (F := F)).nCore 0) => (P m).dn 0 d c) = (FIN m d : sProp 𝕄) := (whole_cores m d _).symm
  unfold SparseCore.Cfg.tcRes SparseCore.Cfg.tcEnd
  rw [arrays_eq]
  simp only [main, wp_bind, wp_pure]
  iintro ⟨#Hctx, Hst, ⟨Hb, Harr, Hts, -⟩, -⟩
  iapply ((K (F := F)).wp_run (Df (F := F)) 𝒱 (EH := EH) (P := P m) κ d 0) $$ [Hst Harr Hb Hts]
  isplitr; · iexact Hctx
  isplitl [Hst]; · iexact Hst
  isplitl [Harr]; · rw [hst]; iexact Harr
  iintro ⟨Hst, Hdn⟩
  ihave Hdn' := (Entails.of_eq hdn) $$ Hdn
  imodintro
  isplitl [Hst]; · iexact Hst
  isplitl [Hdn']; · iexact Hdn'
  isplitl [Hb] <;> iassumption

/-- What the final memory is to say of device `d`. -/
def fq (d : Dev nD) (s' : Phys nD τ sig (Elt F)) : Prop :=
  s'.mem.mem (oLoc d) = G m d ∧ s'.mem.mem (xLoc d) = m (xLoc d) ∧ s'.mem.mem (iLoc d) = m (iLoc d)

omit [FloatOps F] in
set_option maxRecDepth 16384 in
/-- `FIN` says it. -/
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- THE RUN, at any instance: from any memory whose row numbers are in the table, every weakly fair execution terminates
    with the result holding the gathered rows, the table and the row numbers unchanged and every semaphore counter at
    zero. -/
theorem run_main [∀ e, Nonempty (Elt F e)] (hpre : InTable m) :
    θ_run (Cert.KernelIdeal.defs (F := F)) (Cert.KernelIdeal.threads (F := F)) ⟨m, fun _ => 0, ρ⟩ fun r =>
      (∀ d : Dev nD, r.2.mem (oLoc d) = G m d ∧ r.2.mem (xLoc d) = m (xLoc d) ∧ r.2.mem (iLoc d) = m (iLoc d)) ∧ r.2.sem = fun _ => 0 :=
  SparseCore.Cfg.θ_run_sc_quiescent (K := K (F := F)) (D := Df (F := F)) (𝒱 := 𝒱) (EH := EH) (P := P m) (A := ∅) launch_facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (fund m)) (hmain m ρ) (fq m) (hfin m) _ (fun _ h hz => ⟨h, hz⟩)

end Cert.Proof.RowGather

end
-- ==== Proof.RefValue.lean ====
/-
  The reference's value on row numbers in the table, and the precondition read back.

  `jnp.take` prints as more than a gather: it adds a million to a negative row number, gathers, and puts a NaN in every row
  whose number is still outside the table. On row numbers in the table it adds nothing and replaces nothing, so what is
  left is the gather, which is the kernel's `taken`. Nothing here depends on how floats are read.
-/
module

public import proofs.«01_k».proof.Proof.Task
public import proofs.«01_k».proof.Proof.Gen.Pre_in_table
public import Idealize.ShloMosaic.Lib.Routing.Ops
public import Idealize.ShloMosaic.Lib.ReduceAll
public import Idealize.ShloMosaic.Lib.Affine

@[expose] public section

noncomputable section

namespace Cert.Proof.RowGather

open Cert.KernelIdeal
open Idealize.ShloMosaic
open Idealize.ShloMosaic.ValueIdx

variable {F : FTy → Type} [FloatOps F]

/-! The reference's other shapes: a scalar, one element, and the column of row numbers. -/

abbrev U_ : Shape := ⟨0, ![]⟩
abbrev U1 : Shape := ⟨1, ![1]⟩
abbrev U1x1 : Shape := ⟨2, ![1, 1]⟩
abbrev U64x1 : Shape := ⟨2, ![64, 1]⟩

/-- A word between 0 and 999999 as a signed number is below a million as an unsigned one. -/
theorem toNat_of_range {v : BitVec 32} (h0 : (0#32).toInt ≤ v.toInt) (h1 : v.toInt < (1000000#32).toInt) : v.toNat < 1000000 := by
  simp only [BitVec.toInt_eq_toNat_cond, BitVec.toNat_ofNat, Nat.reducePow, Nat.reduceMod] at h0 h1
  omega

/-- The precondition read back: every row number is below a million. -/
theorem inTable_of_pre (x : S1000000x128.Idx → F .f32) (idx : S64.Idx → BitVec 32)
    (h : Cert.Pre_in_table.fn (F := F) x idx = fun _ => 1#1) (j : S64.Idx) : (idx j).toNat < 1000000 := by
  have e := congrFun h ix0
  dsimp only [Cert.Pre_in_table.fn] at e
  have hj := IntOp.andi_eq_one.1 (Host.reduce_andi_all _ _ _ _ _ e j)
  exact toNat_of_range (IntOp.cmpi_sge.1 hj.1) (IntOp.cmpi_slt.1 hj.2)

section
variable (x : S1000000x128.Idx → F .f32) (idx : S64.Idx → BitVec 32) (b0 : U_.BroadcastsInDim S64 (![] : Fin 0 → Fin 1))

/-- The row numbers as the reference corrects them: a million more where negative. -/
abbrev corrected : S64.Idx → BitVec 32 :=
  select (cmpi .slt idx (broadcastInDim S64 ![] b0 (constantI U_ 32 0#32)))
    (addi idx (broadcastInDim S64 ![] b0 (constantI U_ 32 1000000#32))) idx

/-- Row numbers in the table are not corrected. -/
theorem corrected_eq (hr : ∀ j, (idx j).toNat < 1000000) : corrected idx b0 = idx := by
  funext j
  have hj := hr j
  have hn : ¬ IntOp.cmpi .slt (idx j) 0#32 = 1#1 := fun e => by
    have := IntOp.cmpi_slt.1 e
    simp only [BitVec.toInt_eq_toNat_cond, BitVec.toNat_ofNat, Nat.reducePow, Nat.reduceMod] at this
    omega
  exact if_neg hn

/-- The reference's result on row numbers in the table is `taken`: no number is corrected, no row is replaced, and the
    gather reads the row of each number. -/
theorem reference_eq (hr : ∀ j, (idx j).toNat < 1000000)
    (b1 : S64.BroadcastsInDim U64x1 (![0] : Fin 1 → Fin 2)) (b2 : U_.BroadcastsInDim U64x1 (![] : Fin 0 → Fin 2))
    (b3 : U1.BroadcastsInDim U1x1 (![1] : Fin 1 → Fin 2)) (b4 : U1x1.BroadcastsInDim U64x1 (![0, 1] : Fin 2 → Fin 2))
    (r : U64x1.ReducesTo [1] S64) (hu : 0 < U_.numel) (b5 : S64.BroadcastsInDim S64x128 (![0] : Fin 1 → Fin 2))
    (b6 : U_.BroadcastsInDim S64x128 (![] : Fin 0 → Fin 2)) (d : GatherDims S1000000x128 U64x1 S64x128)
    (hoff : d.offsetDims = [1]) (hcoll : d.collapsedSliceDims = [0]) (hob : d.operandBatchingDims = [])
    (hsim : d.startIndexMap = [0]) (hivd : d.indexVectorDim = 1) (nan : S64x128.Idx → F .f32) :
    select (broadcastInDim S64x128 ![0] b5 (Host.reduce IntOp.andi
        (andi (cmpi .sge (broadcastInDim U64x1 ![0] b1 (corrected idx b0)) (broadcastInDim U64x1 ![] b2 (constantI U_ 32 0#32)))
          (cmpi .sle (broadcastInDim U64x1 ![0] b1 (corrected idx b0))
            (broadcastInDim U64x1 ![0, 1] b4 (broadcastInDim U1x1 ![1] b3 (constantI U1 32 999999#32)))))
        (constantI U_ 1 1#1) r hu))
      (Host.gather d x (broadcastInDim U64x1 ![0] b1 (corrected idx b0))) nan
      = taken (F := F) x idx := by
  rw [corrected_eq idx b0 hr]
  funext j
  obtain ⟨c, y, rfl⟩ : ∃ c y, j = ix2 c y := ⟨j 0, j 1, eq_ix2 j⟩
  have hrow : ∀ i : U64x1.Idx, broadcastInDim U64x1 ![0] b1 idx i = idx (ix1 (i 0)) := fun i => by
    refine congrArg idx (funext fun a => ?_)
    obtain rfl : a = 0 := Subsingleton.elim _ _
    rfl
  have hmask : ∀ i, broadcastInDim S64x128 ![0] b5 (Host.reduce IntOp.andi
        (andi (cmpi .sge (broadcastInDim U64x1 ![0] b1 idx) (broadcastInDim U64x1 ![] b2 (constantI U_ 32 0#32)))
          (cmpi .sle (broadcastInDim U64x1 ![0] b1 idx)
            (broadcastInDim U64x1 ![0, 1] b4 (broadcastInDim U1x1 ![1] b3 (constantI U1 32 999999#32)))))
        (constantI U_ 1 1#1) r hu) i = 1#1 := fun i => by
    refine Host.reduce_andi_one _ _ _ _ _ rfl fun k => IntOp.andi_eq_one.2 ⟨IntOp.cmpi_sge.2 ?_, IntOp.cmpi_sle.2 ?_⟩
    · have hk := hr (ix1 (k 0))
      rw [hrow]
      change (0#32).toInt ≤ _
      simp only [BitVec.toInt_eq_toNat_cond, BitVec.toNat_ofNat, Nat.reducePow, Nat.reduceMod]
      omega
    · have hk := hr (ix1 (k 0))
      rw [hrow]
      change _ ≤ (999999#32).toInt
      simp only [BitVec.toInt_eq_toNat_cond, BitVec.toNat_ofNat, Nat.reducePow, Nat.reduceMod]
      omega
  refine (if_pos (hmask (ix2 c y))).trans ?_
  refine Routing.gather_row d hoff hcoll hob hsim hivd x _ c y (Fin.ofNat 1000000 (idx (ix1 c)).toNat) ?_ (by decide)
  rw [hrow]
  refine BitVec.eq_of_toNat_eq ?_
  have hc := hr (ix1 c)
  show (idx (ix1 c)).toNat = (BitVec.ofNat 32 ((idx (ix1 c)).toNat % 1000000)).toNat
  rw [BitVec.toNat_ofNat, Nat.mod_eq_of_lt hc]
  omega

end

end Cert.Proof.RowGather

end
-- ==== Proof.lean ====
/-
  The proof of `Cert.Claim`: the kernel's frames at `Bits` and at `Ideal`, the reference's frames, and the two value
  claims, `algebraic` at `Ideal` and `bitexact` at `Bits`.

  The kernel's run is proved once, for any reading of floats (`RowGather.run_main`): on row numbers in the table it ends
  with the table and the row numbers unchanged, every semaphore at zero and the result equal to `taken` of the two. The
  reference's result on such row numbers is the same `taken` (`RowGather.reference_eq`). Everything below is those two
  facts, read at `Bits` and at `Ideal`.
-/
module

public import proofs.«01_k».proof.Defs
public import proofs.«01_k».proof.Proof.Launch
public import proofs.«01_k».proof.Proof.RefValue
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_in_table
public import Idealize.ShloMosaic.Adequacy
public import Idealize.ShloMosaic.Init

@[expose] public section

noncomputable section

namespace Cert.Proof

open Idealize.ShloMosaic Idealize.SL.Sem
open Cert.Proof.RowGather (run_main inTable_of_pre reference_eq InTable)

/-- The kernel at `Bits`, on row numbers in the table: it terminates, leaves its arguments unchanged and every semaphore
    at zero. -/
theorem frame_kernel : Cert.quiescent_Kernel := fun m ρ hpre =>
  (θ_run Cert.KernelIdeal.defs _ _).mono (fun _ h => ⟨fun c => (h.1 c).2, h.2⟩)
    (run_main (F := Bits) m ρ fun d => inTable_of_pre _ _ (hpre d))

/-- The same at `Ideal`. -/
theorem frame_kernelIdeal : Cert.quiescent_KernelIdeal := fun m ρ hpre =>
  (θ_run Cert.KernelIdeal.defs _ _).mono (fun _ h => ⟨fun c => (h.1 c).2, h.2⟩)
    (run_main (F := Ideal) m ρ fun d => inTable_of_pre _ _ (hpre d))

/-- The reference at `Ideal`, on any arguments: it terminates, leaves its arguments unchanged and every semaphore at
    zero (the program declares no semaphore). -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- The same on the arguments the precondition admits. -/
theorem frame_referenceIdeal_pre : Cert.quiescent_ReferenceIdeal_pre_in_table := by
  intro m ρ _
  exact (θ_run Cert.ReferenceIdeal.defs _ _).mono (fun r h => ⟨fun c => (h c).2, sem_eq_zero_of_no_sems (by decide) r.2⟩)
    (Cert.ReferenceIdeal.Value.run m ρ)

/-- The reference at `Bits`: it terminates, leaves its arguments unchanged and every semaphore at zero. -/
theorem frame_reference : Cert.quiescent_Reference := by
  intro m ρ _
  exact (θ_run Cert.Reference.defs _ _).mono (fun r h => ⟨fun c => (h c).2, sem_eq_zero_of_no_sems (by decide) r.2⟩)
    (Cert.Reference.Value.run m ρ)

/-- At `Ideal`, on row numbers in the table, the kernel and the reference end with equal results: the rows taken. -/
theorem algebraic : Cert.algebraic_KernelIdeal_ReferenceIdeal := by
  intro m g m' g' hpre hagree
  have hin : InTable (F := Ideal) m := fun d => inTable_of_pre _ _ (hpre d)
  refine ⟨fun c => RowGather.G (F := Ideal) m c, (θ_run Cert.KernelIdeal.defs _ _).mono (fun _ h => h.1) (run_main m g hin),
    (θ_run Cert.ReferenceIdeal.defs _ _).mono (fun _ h c => ⟨(h c).1.trans ?_, (h c).2⟩) (Cert.ReferenceIdeal.Value.run m' g')⟩
  rw [(hagree c).1, (hagree c).2]
  refine Eq.trans ?_ (reference_eq (F := Ideal) (m (RowGather.xLoc c)) (m (RowGather.iLoc c)) (by decide) (hin c) (by decide) (by decide) (by decide) (by decide) (by decide) (by decide) (by decide) (by decide) Cert.ReferenceIdeal.gather_S1000000x128_S64x1_S64x128_1_0_n_n_0_1_1128
    rfl rfl rfl rfl rfl (fun _ => FloatOps.ofBits .f32 0x7FC00000#32))
  rfl

/-- At `Bits`, on row numbers in the table, the kernel and the reference end with equal results, bit for bit: the rows
    taken. -/
theorem bitexact : Cert.bitexact_Kernel_Reference := by
  intro m g m' g' hpre hagree
  have hin : InTable (F := Bits) m := fun d => inTable_of_pre _ _ (hpre d)
  refine ⟨fun c => RowGather.G (F := Bits) m c, (θ_run Cert.KernelIdeal.defs _ _).mono (fun _ h => h.1) (run_main (F := Bits) m g hin),
    (θ_run Cert.Reference.defs _ _).mono (fun _ h c => ⟨(h c).1.trans ?_, (h c).2⟩) (Cert.Reference.Value.run m' g')⟩
  rw [(hagree c).1, (hagree c).2]
  refine Eq.trans ?_ (reference_eq (F := Bits) (m (RowGather.xLoc c)) (m (RowGather.iLoc c)) (by decide) (hin c) (by decide) (by decide) (by decide) (by decide) (by decide) (by decide) (by decide) (by decide) Cert.Reference.gather_S1000000x128_S64x1_S64x128_1_0_n_n_0_1_1128
    rfl rfl rfl rfl rfl (fun _ => FloatOps.ofBits .f32 0x7FC00000#32))
  rfl

/-- Every claim of this directory. -/
theorem claim : Cert.Claim := ⟨Cert.Kernel.Gen.facts, Cert.KernelIdeal.Gen.facts, Cert.ReferenceIdeal.Gen.facts, Cert.Reference.Gen.facts, Cert.Pre_in_table.Gen.facts,
  frame_kernel, frame_kernelIdeal, frame_referenceIdeal, frame_referenceIdeal_pre, frame_reference, trivial, algebraic, bitexact⟩

end Cert.Proof

end
